-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots_distinct [hPre_slots_distinct : Cert.Pre_slots_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_distinct [hPre_slots_distinct : Cert.Pre_slots_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_slots_distinct [hKernelIdeal : Cert.KernelIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_slots_distinct [hReferenceIdeal : Cert.ReferenceIdeal.Facts] [hPre_slots_distinct : Cert.Pre_slots_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_slots_distinct [hKernelIdeal : Cert.KernelIdeal.Facts] [hReferenceIdeal : Cert.ReferenceIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_slots_distinct : Cert.Pre_slots_distinct.Facts),
    quiescent_Kernel (hKernel := hKernel)
    ∧ quiescent_KernelIdeal (hKernelIdeal := hKernelIdeal)
    ∧ quiescent_KernelIdeal_pre_slots_distinct (hKernelIdeal := hKernelIdeal) (hPre_slots_distinct := hPre_slots_distinct)
    ∧ quiescent_ReferenceIdeal (hReferenceIdeal := hReferenceIdeal)
    ∧ quiescent_ReferenceIdeal_pre_slots_distinct (hReferenceIdeal := hReferenceIdeal) (hPre_slots_distinct := hPre_slots_distinct)
    ∧ preserves_Kernel_KernelIdeal
    ∧ algebraic_KernelIdeal_ReferenceIdeal_pre_slots_distinct (hKernelIdeal := hKernelIdeal) (hReferenceIdeal := hReferenceIdeal) (hPre_slots_distinct := hPre_slots_distinct)
-- ==== Pre_slots_distinct.lean ====
abbrev S65536x8x64 : Shape := ⟨3, ![65536, 8, 64]⟩
abbrev S32768x8x64 : Shape := ⟨3, ![32768, 8, 64]⟩
abbrev S32768 : Shape := ⟨1, ![32768]⟩
abbrev S_ : Shape := ⟨0, ![]⟩
abbrev S32768x1 : Shape := ⟨2, ![32768, 1]⟩
abbrev S1x32768 : Shape := ⟨2, ![1, 32768]⟩
abbrev S32768x32768 : Shape := ⟨2, ![32768, 32768]⟩

class Facts : Prop where
  bcast_S_S32768 : S_.BroadcastsInDim S32768 (![] : Fin 0 → Fin S32768.rank)
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)

variable [Facts]

def fn {F : FTy → Type} [FloatOps F] (main_arg0 : FVec F S65536x8x64 .f32) (main_arg1 : FVec F S65536x8x64 .f32) (main_arg2 : FVec F S32768x8x64 .f32) (main_arg3 : FVec F S32768x8x64 .f32) (main_arg4 : IVec S32768 32) : IVec S32768x32768 1 :=
  let main_v0 : IVec S32768 32 := iotaInDim S32768 32 0
  let main_c : IVec S_ 32 := constantI S_ 32 0#32
  let main_v1 : IVec S32768 32 := broadcastInDim S32768 ![] bcast_S_S32768 main_c
  let main_v2 : IVec S32768 1 := cmpi .sge main_arg4 main_v1
  let main_c_0 : IVec S_ 32 := constantI S_ 32 65536#32
  let main_v3 : IVec S32768 32 := broadcastInDim S32768 ![] bcast_S_S32768 main_c_0
  let main_v4 : IVec S32768 1 := cmpi .slt main_arg4 main_v3
  let main_v5 : IVec S32768 1 := andi main_v2 main_v4
  let main_v6 : IVec S32768x1 32 := broadcastInDim S32768x1 ![0] bcast_S32768_S32768x1_0 main_arg4
  let main_v7 : IVec S1x32768 32 := broadcastInDim S1x32768 ![1] bcast_S32768_S1x32768_1 main_arg4
  let main_v8 : IVec S32768x32768 32 := broadcastInDim S32768x32768 ![0, 1] bcast_S32768x1_S32768x32768_0_1 main_v6
  let main_v9 : IVec S32768x32768 32 := broadcastInDim S32768x32768 ![0, 1] bcast_S1x32768_S32768x32768_0_1 main_v7
  let main_v10 : IVec S32768x32768 1 := cmpi .ne main_v8 main_v9
  let main_v11 : IVec S32768x1 32 := broadcastInDim S32768x1 ![0] bcast_S32768_S32768x1_0 main_v0
  let main_v12 : IVec S1x32768 32 := broadcastInDim S1x32768 ![1] bcast_S32768_S1x32768_1 main_v0
  let main_v13 : IVec S32768x32768 32 := broadcastInDim S32768x32768 ![0, 1] bcast_S32768x1_S32768x32768_0_1 main_v11
  let main_v14 : IVec S32768x32768 32 := broadcastInDim S32768x32768 ![0, 1] bcast_S1x32768_S32768x32768_0_1 main_v12
  let main_v15 : IVec S32768x32768 1 := cmpi .eq main_v13 main_v14
  let main_v16 : IVec S32768x32768 1 := ori main_v10 main_v15
  let main_v17 : IVec S32768x1 1 := broadcastInDim S32768x1 ![0] bcast_S32768_S32768x1_0 main_v5
  let main_v18 : IVec S32768x32768 1 := broadcastInDim S32768x32768 ![0, 1] bcast_S32768x1_S32768x32768_0_1 main_v17
  let main_v19 : IVec S32768x32768 1 := andi main_v16 main_v18
  main_v19
-- ==== Kernel.lean ====
abbrev S65536x8x64 : Shape := ⟨3, ![65536, 8, 64]⟩
abbrev S32768x8x64 : Shape := ⟨3, ![32768, 8, 64]⟩
abbrev S32768 : Shape := ⟨1, ![32768]⟩
abbrev S8x64x32768 : Shape := ⟨3, ![8, 64, 32768]⟩
abbrev S512x32768 : Shape := ⟨2, ![512, 32768]⟩
abbrev S1024x32768 : Shape := ⟨2, ![1024, 32768]⟩
abbrev S64x1024 : Shape := ⟨2, ![64, 1024]⟩
abbrev S128x1024 : Shape := ⟨2, ![128, 1024]⟩
abbrev S8x128x32768 : Shape := ⟨3, ![8, 128, 32768]⟩
abbrev S32768x8x128 : Shape := ⟨3, ![32768, 8, 128]⟩

abbrev nBuf : Space → Nat
  | .hbm => 12
  | .vmem => 6
  | .smem => 0
  | _ => 0

abbrev bufTy : (tb : Table) → Fin (tcTables nBuf tb) → BufTy
  | .hbm, ⟨0, _⟩ => ⟨S65536x8x64, .f32⟩
  | .hbm, ⟨1, _⟩ => ⟨S65536x8x64, .f32⟩
  | .hbm, ⟨2, _⟩ => ⟨S32768x8x64, .f32⟩
  | .hbm, ⟨3, _⟩ => ⟨S32768x8x64, .f32⟩
  | .hbm, ⟨4, _⟩ => ⟨S32768, .i32⟩
  | .hbm, ⟨5, _⟩ => ⟨S8x64x32768, .f32⟩
  | .hbm, ⟨6, _⟩ => ⟨S512x32768, .f32⟩
  | .hbm, ⟨7, _⟩ => ⟨S8x64x32768, .f32⟩
  | .hbm, ⟨8, _⟩ => ⟨S512x32768, .f32⟩
  | .hbm, ⟨9, _⟩ => ⟨S1024x32768, .f32⟩
  | .hbm, ⟨10, _⟩ => ⟨S8x128x32768, .f32⟩
  | .hbm, ⟨11, _⟩ => ⟨S32768x8x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S128x1024, .f32⟩
  | .local _ .vmem, ⟨5, _⟩ => ⟨S128x1024, .f32⟩
  | _, _ => ⟨S65536x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S65536x8x64 : Shape := ⟨3, ![65536, 8, 64]⟩
abbrev S32768x8x64 : Shape := ⟨3, ![32768, 8, 64]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x8x128 : Shape := ⟨3, ![32768, 8, 128]⟩

abbrev nBuf : Space → Nat
  | .hbm => 70
  | .vmem => 0
  | .smem => 0
  | _ => 0

abbrev bufTy : (tb : Table) → Fin (tcTables nBuf tb) → BufTy
  | .hbm, ⟨0, _⟩ => ⟨S65536x8x64, .f32⟩
  | .hbm, ⟨1, _⟩ => ⟨S65536x8x64, .f32⟩
  | .hbm, ⟨2, _⟩ => ⟨S32768x8x64, .f32⟩
  | .hbm, ⟨3, _⟩ => ⟨S32768x8x64, .f32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S65536x8x64, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S65536x8x64, .f32⟩
  | .hbm, ⟨23, _⟩ => ⟨S_, .i32⟩
  | .hbm, ⟨24, _⟩ => ⟨S32768, .i32⟩
  | .hbm, ⟨25, _⟩ => ⟨S32768, .i1⟩
  | .hbm, ⟨26, _⟩ => ⟨S_, .i32⟩
  | .hbm, ⟨27, _⟩ => ⟨S32768, .i32⟩
  | .hbm, ⟨28, _⟩ => ⟨S32768, .i32⟩
  | .hbm, ⟨29, _⟩ => ⟨S32768, .i32⟩
  | .hbm, ⟨30, _⟩ => ⟨S32768x1, .i32⟩
  | .hbm, ⟨31, _⟩ => ⟨S1, .i32⟩
  | .hbm, ⟨32, _⟩ => ⟨S_, .i32⟩
  | .hbm, ⟨33, _⟩ => ⟨S32768x1, .i32⟩
  | .hbm, ⟨34, _⟩ => ⟨S32768x1, .i1⟩
  | .hbm, ⟨35, _⟩ => ⟨S1x1, .i32⟩
  | .hbm, ⟨36, _⟩ => ⟨S32768x1, .i32⟩
  | .hbm, ⟨37, _⟩ => ⟨S32768x1, .i1⟩
  | .hbm, ⟨38, _⟩ => ⟨S32768x1, .i1⟩
  | .hbm, ⟨39, _⟩ => ⟨S_, .i1⟩
  | .hbm, ⟨40, _⟩ => ⟨S32768, .i1⟩
  | .hbm, ⟨41, _⟩ => ⟨S32768x8x64, .f32⟩
  | .hbm, ⟨42, _⟩ => ⟨S32768x8x64, .i1⟩
  | .hbm, ⟨43, _⟩ => ⟨S_, .f32⟩
  | .hbm, ⟨44, _⟩ => ⟨S32768x8x64, .f32⟩
  | .hbm, ⟨45, _⟩ => ⟨S32768x8x64, .f32⟩
  | .hbm, ⟨46, _⟩ => ⟨S_, .i32⟩
  | .hbm, ⟨47, _⟩ => ⟨S32768, .i32⟩
  | .hbm, ⟨48, _⟩ => ⟨S32768, .i1⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .i32⟩
  | .hbm, ⟨53, _⟩ => ⟨S32768x1, .i32⟩
  | .hbm, ⟨54, _⟩ => ⟨S1, .i32⟩
  | .hbm, ⟨55, _⟩ => ⟨S_, .i32⟩
  | .hbm, ⟨56, _⟩ => ⟨S32768x1, .i32⟩
  | .hbm, ⟨57, _⟩ => ⟨S32768x1, .i1⟩
  | .hbm, ⟨58, _⟩ => ⟨S1x1, .i32⟩
  | .hbm, ⟨59, _⟩ => ⟨S32768x1, .i32⟩
  | .hbm, ⟨60, _⟩ => ⟨S32768x1, .i1⟩
  | .hbm, ⟨61, _⟩ => ⟨S32768x1, .i1⟩
  | .hbm, ⟨62, _⟩ => ⟨S_, .i1⟩
  | .hbm, ⟨63, _⟩ => ⟨S32768, .i1⟩
  | .hbm, ⟨64, _⟩ => ⟨S32768x8x64, .f32⟩
  | .hbm, ⟨65, _⟩ => ⟨S32768x8x64, .i1⟩
  | .hbm, ⟨66, _⟩ => ⟨S_, .f32⟩
  | .hbm, ⟨67, _⟩ => ⟨S32768x8x64, .f32⟩
  | .hbm, ⟨68, _⟩ => ⟨S32768x8x64, .f32⟩
  | .hbm, ⟨69, _⟩ => ⟨S32768x8x128, .f32⟩
  | _, _ => ⟨S65536x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v14 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v15 : Ref sig .tc := ⟨.hbm, 68, rfl⟩
abbrev main_v16 : Ref sig .tc := ⟨.hbm, 69, rfl⟩

abbrev nD : Nat := 1
abbrev τ : Topo := Topo.v7x

variable {F : FTy → Type} [FloatOps F]
-- ==== Proof.KernelValue.lean ====
/-
  What the kernel returns: the new keys and the new values side by side.
  The host lays both arrays out with the tokens last; block by block the pipeline stacks a head's 64 key rows on its 64 value rows;
  the host then brings the tokens back to the front.
-/
module

public import proofs.«01_k».proof.Proof.Gen.KernelIdeal.Frame
public import Idealize.ShloMosaic.Lib.Pipeline.ValueKit
public import Idealize.ShloMosaic.Lib.ValueIdxCore

@[expose] public section

noncomputable section

namespace Cert.KernRead

open Cert.KernelIdeal Cert.KernelIdeal.Gen Idealize.ShloMosaic.ValueIdx Idealize.SL.Sem
open Idealize.ShloMosaic hiding ix2 ix3

variable {F : FTy → Type} [FloatOps F]

/-! ## One block -/

/-- A block of key rows stacked on a block of value rows. -/
def stacked (x y : FVec F S64x1024 .f32) : FVec F S128x1024 .f32 := fun i =>
  if h : (i 0).val < 64 then x (ix2 ⟨(i 0).val, h⟩ (i 1)) else y (ix2 ⟨(i 0).val - 64, by have b : (i 0).val < 128 := (i 0).isLt; omega⟩ (i 1))

/-- What the body leaves of its two input blocks is the one stacked on the other. -/
theorem out_eq (x y : FVec F S64x1024 .f32) : out0_2 x y = stacked x y := by
  have hz : (![0, 0] : Fin 2 → ℕ) = fun _ => 0 := by funext a; fin_cases a <;> rfl
  funext i
  refine View.canon_apply_of_pieces (stacked x y) _ (fun p hp => ?_) i (cover0_2 _ _ i)
  simp only [List.mem_cons, List.mem_nil_iff, or_false] at hp
  rcases hp with rfl | rfl
  · intro j
    obtain ⟨a, b, rfl⟩ : ∃ (a : Fin 64) (b : Fin 1024), j = ix2 a b := ⟨j 0, j 1, ValueIdx.eq_ix2 j⟩
    have e : r0_2.emb (ix2 a b) = ix2 (⟨64 + a.val, by omega⟩ : Fin 128) b :=
      funext fun k => Fin.ext (by rw [ValueKit.rect_emb_unit_val]; match k with | ⟨0, _⟩ => rfl | ⟨1, _⟩ => exact Nat.zero_add _)
    show k0_pay2 (View.ld y r0_0) (ix2 a b) = stacked x y (r0_2.emb (ix2 a b))
    rw [e, View.ld_unit_zero hz]
    unfold k0_pay2 stacked
    rw [shapeCast_self, dif_neg (show ¬ 64 + a.val < 64 by omega)]
    exact congrArg y (congrArg (fun z => ix2 z b) (Fin.ext (Nat.add_sub_cancel_left 64 a.val).symm))
  · intro j
    obtain ⟨a, b, rfl⟩ : ∃ (a : Fin 64) (b : Fin 1024), j = ix2 a b := ⟨j 0, j 1, ValueIdx.eq_ix2 j⟩
    have e : r0_1.emb (ix2 a b) = ix2 (⟨a.val, by omega⟩ : Fin 128) b :=
      funext fun k => Fin.ext (by rw [ValueKit.rect_emb_unit_val]; match k with | ⟨0, _⟩ => exact Nat.zero_add _ | ⟨1, _⟩ => exact Nat.zero_add _)
    show k0_pay1 (View.ld x r0_0) (ix2 a b) = stacked x y (r0_1.emb (ix2 a b))
    rw [e, View.ld_unit_zero hz]
    unfold k0_pay1 stacked
    rw [shapeCast_self, dif_pos (show a.val < 64 from a.isLt)]

/-! ## The whole array -/

/-- The array the pipeline fills from its two input arrays: head after head, 64 rows of the first and 64 rows of the second. -/
def heads (x y : FVec F S512x32768 .f32) : FVec F S1024x32768 .f32 := fun i =>
  if (i 0).val % 128 < 64
  then x (ix2 ⟨((i 0).val / 128 * 64 + (i 0).val % 128 % 64), by have b : (i 0).val < 1024 := (i 0).isLt; omega⟩ (i 1))
  else y (ix2 ⟨((i 0).val / 128 * 64 + (i 0).val % 128 % 64), by have b : (i 0).val < 1024 := (i 0).isLt; omega⟩ (i 1))

/-- Point `t` reads the key block at its own coordinates, -/
theorem index_0 : ∀ t : Fin cfg0.N, win0_0.index t = ![(grid0.coords t 0).val, (grid0.coords t 1).val] :=
  (by decide +kernel : ∀ t : Fin grid0.N, win0_0.index t = ![(grid0.coords t 0).val, (grid0.coords t 1).val])
/-- the value block at the same coordinates, -/
theorem index_1 : ∀ t : Fin cfg0.N, win0_1.index t = ![(grid0.coords t 0).val, (grid0.coords t 1).val] :=
  (by decide +kernel : ∀ t : Fin grid0.N, win0_1.index t = ![(grid0.coords t 0).val, (grid0.coords t 1).val])
/-- and writes the result block there too. -/
theorem index_2 : ∀ t : Fin cfg0.N, win0_2.index t = ![(grid0.coords t 0).val, (grid0.coords t 1).val] :=
  (by decide +kernel : ∀ t : Fin grid0.N, win0_2.index t = ![(grid0.coords t 0).val, (grid0.coords t 1).val])

variable (m : (ℓ : Loc nD τ sig) → Buf (Elt F) ℓ)

/-- After the last point the pipeline's array holds the two input arrays interleaved head by head. -/
theorem array_eq (c : Dev nD) : (dats m 0 c).arrAt 2 cfg0.N = heads (V m c main_v1) (V m c main_v3) := by
  refine (dats m 0 c).arrAt_eq_of_covers 2 _ (by decide +kernel) fun t hf y => ?_
  blk_simp
  rw [after0_2, out_eq]
  have y0 : (y 0).val < 128 := (y 0).isLt
  have e0 : ((win0_2.blk t).view.emb y 0 : ℕ) = (grid0.coords t 0).val * 128 + (y 0).val := by blk_simp [index_2]
  have e1 : ((win0_2.blk t).view.emb y 1 : ℕ) = (grid0.coords t 1).val * 1024 + (y 1).val := by blk_simp [index_2]
  have g0 : (grid0.coords t 0).val < 8 := (grid0.coords t 0).isLt
  unfold stacked heads
  by_cases h : (y 0).val < 64
  · rw [dif_pos h, if_pos (by rw [e0]; omega)]
    blk_simp [iblk]
    refine congrArg (V m c main_v1) ?_
    blk_ext [index_0, index_2]
    exact e1.symm
  · rw [dif_neg h, if_neg (by rw [e0]; omega)]
    blk_simp [iblk]
    refine congrArg (V m c main_v3) ?_
    blk_ext [index_1, index_2]
    exact e1.symm

/-! ## The host's layout -/

/-- The new rows laid out with the tokens last, heads and components counted together. -/
def tokensLast (x : FVec F S32768x8x64 .f32) : FVec F S512x32768 .f32 :=
  shapeCast S512x32768 (transpose S8x64x32768 [1, 2, 0] x transposes_S32768x8x64_S8x64x32768_1_2_0) shapeCasts_S8x64x32768_S512x32768

/-- The filled array taken back: heads and components apart, tokens first. -/
def tokensFirst (x : FVec F S1024x32768 .f32) : FVec F S32768x8x128 .f32 :=
  transpose S32768x8x128 [2, 0, 1] (shapeCast S8x128x32768 x shapeCasts_S1024x32768_S8x128x32768) transposes_S8x128x32768_S32768x8x128_2_0_1

/-- With the tokens last, row `64 h + d` holds component `d` of head `h`. -/
theorem tokensLast_at (x : FVec F S32768x8x64 .f32) (r : Fin 512) (n : Fin 32768) (h : Fin 8) (d : Fin 64) (hr : r.val = h.val * 64 + d.val) :
    tokensLast x (ix2 r n) = x (ix3 n h d) := by
  unfold tokensLast
  rw [shapeCast_apply _ _ (ix2 r n) (ix3 h d n) (by
      rw [Shape.rowMajor_val_three, Shape.rowMajor_val_two]
      show (h.val * 64 + d.val) * 32768 + n.val = r.val * 32768 + n.val
      rw [hr])]
  exact transpose_apply _ x _ _ _ fun b => match b with | ⟨0, _⟩ => rfl | ⟨1, _⟩ => rfl | ⟨2, _⟩ => rfl

/-- With the tokens first again, component `e` of head `h` is what row `128 h + e` held. -/
theorem tokensFirst_at (x : FVec F S1024x32768 .f32) (t : Fin 32768) (h : Fin 8) (e : Fin 128) :
    tokensFirst x (ix3 t h e) = x (ix2 (⟨h.val * 128 + e.val, by have := h.isLt; have := e.isLt; omega⟩ : Fin 1024) t) := by
  unfold tokensFirst
  rw [transpose_apply _ _ _ (ix3 t h e) (ix3 h e t) (fun b => match b with | ⟨0, _⟩ => rfl | ⟨1, _⟩ => rfl | ⟨2, _⟩ => rfl)]
  exact shapeCast_apply _ _ _ _ (by rw [Shape.rowMajor_val_three, Shape.rowMajor_val_two]; rfl)

/-- Layout, stacking and layout back: a component below 64 is the first array's. -/
theorem joined_left (a b : FVec F S32768x8x64 .f32) (t : Fin 32768) (h : Fin 8) (e : Fin 128) (he : e.val < 64) :
    tokensFirst (heads (tokensLast a) (tokensLast b)) (ix3 t h e) = a (ix3 t h ⟨e.val, he⟩) := by
  rw [tokensFirst_at]
  unfold heads
  rw [if_pos (show (h.val * 128 + e.val) % 128 < 64 by omega)]
  exact tokensLast_at a _ t h ⟨e.val, he⟩ (by
    show (h.val * 128 + e.val) / 128 * 64 + (h.val * 128 + e.val) % 128 % 64 = h.val * 64 + e.val
    omega)

/-- Layout, stacking and layout back: a component from 64 on is the second array's. -/
theorem joined_right (a b : FVec F S32768x8x64 .f32) (t : Fin 32768) (h : Fin 8) (e : Fin 128) (he : 64 ≤ e.val) :
    tokensFirst (heads (tokensLast a) (tokensLast b)) (ix3 t h e) = b (ix3 t h ⟨e.val - 64, by have := e.isLt; omega⟩) := by
  rw [tokensFirst_at]
  unfold heads
  rw [if_neg (show ¬ (h.val * 128 + e.val) % 128 < 64 by omega)]
  exact tokensLast_at b _ t h ⟨e.val - 64, by have := e.isLt; omega⟩ (by
    show (h.val * 128 + e.val) / 128 * 64 + (h.val * 128 + e.val) % 128 % 64 = h.val * 64 + (e.val - 64)
    omega)

/-! ## The run -/

/-- The pipeline's first input array: the new keys with the tokens last. -/
theorem V_v1 (c : Dev nD) : V m c main_v1 = tokensLast (m ((c.tc : Thread nD τ).loc main_arg2)) := by
  show StableHlo.after (List.flatten [hostOps0]) _ (Proc.devRef .tc main_v1) = _
  rw [List.flatten_singleton]
  after_results_simp
  rfl

/-- Its second input array: the new values with the tokens last. -/
theorem V_v3 (c : Dev nD) : V m c main_v3 = tokensLast (m ((c.tc : Thread nD τ).loc main_arg3)) := by
  show StableHlo.after (List.flatten [hostOps0]) _ (Proc.devRef .tc main_v3) = _
  rw [List.flatten_singleton]
  after_results_simp
  rfl

/-- What the host's last lines leave in the result. -/
theorem tail_eq (c : Dev nD) :
    Pipeline.afterTail₀ cfgs (dats m) 0 (V0 m) [hostOps1] c main_v6
      = tokensFirst (heads (tokensLast (m ((c.tc : Thread nD τ).loc main_arg2))) (tokensLast (m ((c.tc : Thread nD τ).loc main_arg3)))) := by
  unfold Pipeline.afterTail₀
  rw [List.flatten_singleton]
  after_results_simp
  have e := Pipeline.withArrays_arr (cfgs 0).spec (by decide) c (V0 m c) (fun w => (dats m 0 c).arrAt w (cfgs 0).N) 2
  rw [← V_v1 m c, ← V_v3 m c, ← array_eq m c]
  exact congrArg tokensFirst e

/-- A run of the kernel leaves the joined arrays in the result and the arguments as they were. -/
theorem run (ρ : Dev nD → PrngReg) : θ_run defs (onTc (τ := τ) (main (F := F))) ⟨m, fun _ => 0, ρ⟩ (fun r => ∀ c : Dev nD,
      r.2.mem ((c.tc : Thread nD τ).loc main_v6)
        = tokensFirst (heads (tokensLast (m ((c.tc : Thread nD τ).loc main_arg2))) (tokensLast (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨((h.1 c).2 main_v6 (Pipeline.mem_restRefs_of main_v6 (by decide) (by decide))).trans (tail_eq m c), h.2 c⟩)
    (θ_run_and (run_main m ρ) (unchanged m ρ))

end Cert.KernRead

end
-- ==== Proof.Rows.lean ====
/-
  Writing whole rows of a cache at given row numbers and reading the same rows back, at any extents.
  The cache is an `[N, H, D]` array, the row numbers are a `[T, 1]` array of words, and the rows written are a `[T, H, D]` array.
  When the row numbers lie in `[0, N)` and no two tokens share one, reading back gives exactly the rows that were written.
-/
module

public import Idealize.ShloMosaic.Lib.Routing.OpsSet

@[expose] public section

namespace Cert.Rows

open Idealize.ShloMosaic Idealize.ShloMosaic.ValueIdx Idealize.ShloMosaic.Routing

variable {N T H D : Nat}

/-- The dimension numbers of `cache.at[slots].set(new)`: one row number for each token, a whole `[H, D]` row written. -/
abbrev setDims (wf : ScatterDims.WF (shape3 N H D) (shape2 T 1) (shape3 T H D) [1, 2] [0] [0] 1) :
    ScatterDims (shape3 N H D) (shape2 T 1) (shape3 T H D) where
  updateWindowDims := [1, 2]
  insertedWindowDims := [0]
  scatterDimsToOperandDims := [0]
  indexVectorDim := 1
  wf := wf

/-- The dimension numbers of `jnp.take(cache, slots, axis=0)`: one row number for each token, a whole `[H, D]` row read. -/
abbrev takeDims (wf : GatherDims.WF (shape3 N H D) (shape2 T 1) (shape3 T H D) [1, 2] [0] [] [0] [] 1 ![1, H, D]) :
    GatherDims (shape3 N H D) (shape2 T 1) (shape3 T H D) where
  offsetDims := [1, 2]
  collapsedSliceDims := [0]
  operandBatchingDims := []
  startIndicesBatchingDims := []
  startIndexMap := [0]
  indexVectorDim := 1
  sliceSizes := ![1, H, D]
  wf := wf

section Set

variable (wf : ScatterDims.WF (shape3 N H D) (shape2 T 1) (shape3 T H D) [1, 2] [0] [0] 1)

/-- Element `(t, h, e)` of the rows written starts at the row number of token `t`, read signed. -/
theorem set_start_row (idx : IVec (shape2 T 1) 32) (t : Fin T) (h : Fin H) (e : Fin D) :
    (setDims wf).start (ix3 t h e) idx 0 = (idx (ix2 t 0)).toInt := by
  unfold ScatterDims.start
  rw [dif_pos (show (0 : Fin 3) ∈ (setDims wf).scatterDimsToOperandDims from List.mem_singleton.mpr rfl)]
  refine congrArg (fun i => (idx i).toInt) (funext fun b => Fin.ext ?_)
  match b with
  | ⟨0, _⟩ => rfl
  | ⟨1, _⟩ => rfl

/-- On the head axis and on the feature axis a row starts at 0. -/
theorem set_start_rest (idx : IVec (shape2 T 1) 32) (k : (shape3 T H D).Idx) (a : Fin 3) (ha : a ≠ 0) :
    (setDims wf).start k idx a = 0 := by
  unfold ScatterDims.start
  rw [dif_neg fun h => ha (List.mem_singleton.mp h)]

/-- Element `(t, h, e)` of the rows written lands at `(r, h', e')` of the cache exactly when token `t`'s row number is `r` and the other
    two coordinates agree. -/
theorem set_lands (idx : IVec (shape2 T 1) 32) (t : Fin T) (h : Fin H) (e : Fin D) (r : Fin N) (h' : Fin H) (e' : Fin D) :
    (setDims wf).resultIdx? (ix3 t h e) idx = some (ix3 r h' e') ↔ (idx (ix2 t 0)).toInt = r.val ∧ h = h' ∧ e = e' := by
  have s1 := set_start_rest wf idx (ix3 t h e) 1 (by decide)
  have s2 := set_start_rest wf idx (ix3 t h e) 2 (by decide)
  have w0 : (setDims wf).window (ix3 t h e) 0 = 0 := rfl
  have w1 : (setDims wf).window (ix3 t h e) 1 = h.val := rfl
  have w2 : (setDims wf).window (ix3 t h e) 2 = e.val := rfl
  rw [resultIdx?_eq_some]
  constructor
  · intro q
    have q0 : (setDims wf).start (ix3 t h e) idx 0 + ((setDims wf).window (ix3 t h e) 0 : Int) = (r.val : Int) := q 0
    have q1 : (setDims wf).start (ix3 t h e) idx 1 + ((setDims wf).window (ix3 t h e) 1 : Int) = (h'.val : Int) := q 1
    have q2 : (setDims wf).start (ix3 t h e) idx 2 + ((setDims wf).window (ix3 t h e) 2 : Int) = (e'.val : Int) := q 2
    rw [set_start_row, w0] at q0
    rw [s1, w1] at q1
    rw [s2, w2] at q2
    exact ⟨by omega, Fin.ext (by omega), Fin.ext (by omega)⟩
  · rintro ⟨q, rfl, rfl⟩ a
    match a with
    | ⟨0, _⟩ =>
      show (setDims wf).start (ix3 t h e) idx 0 + ((setDims wf).window (ix3 t h e) 0 : Int) = (r.val : Int)
      rw [set_start_row, w0]; omega
    | ⟨1, _⟩ =>
      show (setDims wf).start (ix3 t h e) idx 1 + ((setDims wf).window (ix3 t h e) 1 : Int) = (h.val : Int)
      rw [s1, w1]; omega
    | ⟨2, _⟩ =>
      show (setDims wf).start (ix3 t h e) idx 2 + ((setDims wf).window (ix3 t h e) 2 : Int) = (e.val : Int)
      rw [s2, w2]; omega

/-- Row `r` of the cache after the write, where `r` is token `t`'s row number and no other token has it: the row of token `t`. -/
theorem set_at {α : Type} (x : (shape3 N H D).Idx → α) (idx : IVec (shape2 T 1) 32) (new : (shape3 T H D).Idx → α)
    (t : Fin T) (h : Fin H) (e : Fin D) (r : Fin N) (hr : (idx (ix2 t 0)).toInt = r.val)
    (inj : ∀ t' : Fin T, (idx (ix2 t' 0)).toInt = r.val → t' = t) :
    Host.scatter (setDims wf) (fun _ b => b) x idx new (ix3 r h e) = new (ix3 t h e) := by
  refine scatter_set_hit (setDims wf) x idx new (ix3 r h e) (new (ix3 t h e)) (fun k hk => ?_) (ix3 t h e)
    ((set_lands wf idx t h e r h e).2 ⟨hr, rfl, rfl⟩)
  obtain ⟨t', h', e', rfl⟩ : ∃ (t' : Fin T) (h' : Fin H) (e' : Fin D), k = ix3 t' h' e' := ⟨k 0, k 1, k 2, eq_ix3 k⟩
  obtain ⟨q, rfl, rfl⟩ := (set_lands wf idx t' h' e' r h e).1 hk
  rw [inj _ q]

end Set

section Take

variable (wf : GatherDims.WF (shape3 N H D) (shape2 T 1) (shape3 T H D) [1, 2] [0] [] [0] [] 1 ![1, H, D])

/-- Element `(t, h, e)` of the rows read is element `(r, h, e)` of the cache, `r` the row number of token `t`, when that is in range. -/
theorem take_at {α : Type} (x : (shape3 N H D).Idx → α) (idx : IVec (shape2 T 1) 32) (t : Fin T) (h : Fin H) (e : Fin D)
    (r : Fin N) (hr : (idx (ix2 t 0)).toInt = r.val) :
    Host.gather (takeDims wf) x idx (ix3 t h e) = x (ix3 r h e) := by
  unfold Host.gather
  refine congrArg x (funext fun a => Fin.ext ?_)
  show (takeDims wf).start (ix3 t h e) idx a + (takeDims wf).batchCoord (ix3 t h e) a + (takeDims wf).offCoord (ix3 t h e) a = _
  rw [GatherDims.batchCoord_eq_zero _ _ _ List.not_mem_nil]
  match a with
  | ⟨0, _⟩ =>
    have hs : (takeDims wf).start (ix3 t h e) idx 0 = min (idx (ix2 t 0)).toInt.toNat (N - 1) := by
      unfold GatherDims.start
      rw [dif_pos (show (0 : Fin 3) ∈ (takeDims wf).startIndexMap from List.mem_singleton.mpr rfl)]
      refine congrArg (fun i => min (idx i).toInt.toNat (N - 1)) (funext fun b => Fin.ext ?_)
      match b with
      | ⟨0, _⟩ => rfl
      | ⟨1, _⟩ => rfl
    have ho : (takeDims wf).offCoord (ix3 t h e) 0 = 0 := rfl
    show (takeDims wf).start (ix3 t h e) idx 0 + 0 + (takeDims wf).offCoord (ix3 t h e) 0 = r.val
    rw [hs, ho, hr, Int.toNat_natCast]
    have := r.isLt
    omega
  | ⟨1, _⟩ =>
    have hs : (takeDims wf).start (ix3 t h e) idx 1 = 0 := by
      unfold GatherDims.start
      exact dif_neg fun q => absurd (List.mem_singleton.mp q) (show (1 : Fin 3) ≠ 0 by decide)
    have ho : (takeDims wf).offCoord (ix3 t h e) 1 = h.val := rfl
    show (takeDims wf).start (ix3 t h e) idx 1 + 0 + (takeDims wf).offCoord (ix3 t h e) 1 = h.val
    rw [hs, ho]; omega
  | ⟨2, _⟩ =>
    have hs : (takeDims wf).start (ix3 t h e) idx 2 = 0 := by
      unfold GatherDims.start
      exact dif_neg fun q => absurd (List.mem_singleton.mp q) (show (2 : Fin 3) ≠ 0 by decide)
    have ho : (takeDims wf).offCoord (ix3 t h e) 2 = e.val := rfl
    show (takeDims wf).start (ix3 t h e) idx 2 + 0 + (takeDims wf).offCoord (ix3 t h e) 2 = e.val
    rw [hs, ho]; omega

end Take

/-- What is read back is what was written: when the row numbers are in `[0, N)` and pairwise different, taking the rows out of the
    updated cache gives the rows that were put in, whatever the cache held before. -/
theorem take_set {α : Type}
    (wfs : ScatterDims.WF (shape3 N H D) (shape2 T 1) (shape3 T H D) [1, 2] [0] [0] 1)
    (wfg : GatherDims.WF (shape3 N H D) (shape2 T 1) (shape3 T H D) [1, 2] [0] [] [0] [] 1 ![1, H, D])
    (x : (shape3 N H D).Idx → α) (idx : IVec (shape2 T 1) 32) (new : (shape3 T H D).Idx → α)
    (lo : ∀ t : Fin T, 0 ≤ (idx (ix2 t 0)).toInt) (hi : ∀ t : Fin T, (idx (ix2 t 0)).toInt < N)
    (inj : ∀ t t' : Fin T, (idx (ix2 t 0)).toInt = (idx (ix2 t' 0)).toInt → t = t') :
    Host.gather (takeDims wfg) (Host.scatter (setDims wfs) (fun _ b => b) x idx new) idx = new := by
  funext j
  obtain ⟨t, h, e, rfl⟩ : ∃ (t : Fin T) (h : Fin H) (e : Fin D), j = ix3 t h e := ⟨j 0, j 1, j 2, eq_ix3 j⟩
  have l := lo t
  have u := hi t
  have hr : (idx (ix2 t 0)).toInt = (((idx (ix2 t 0)).toInt.toNat : Nat) : Int) := by omega
  rw [take_at wfg _ idx t h e ⟨(idx (ix2 t 0)).toInt.toNat, by omega⟩ hr]
  exact set_at wfs x idx new t h e _ hr fun t' q => inj t' t (q.trans hr.symm)

end Cert.Rows

end
-- ==== Proof.Slots.lean ====
/-
  What the precondition says of the slots: each one names a row of the cache, and no two tokens are given the same row.
-/
module

public import proofs.«01_k».proof.Pre_slots_distinct
public import Idealize.ShloMosaic.Lib.Pipeline.Value
public import Idealize.ShloMosaic.Lib.ValueIdxCore
public import Idealize.ShloMosaic.Lib.WordCmp

@[expose] public section

namespace Cert.Slots

open Idealize.ShloMosaic Idealize.ShloMosaic.ValueIdx

/-- The slots of 32768 tokens as row numbers of a 65536-row cache: every one in range, no two alike. -/
structure Good (s : IVec (⟨1, ![32768]⟩ : Shape) 32) : Prop where
  /-- a slot is not negative -/
  lo : ∀ t : Fin 32768, 0 ≤ (s (ix1 t)).toInt
  /-- a slot is a row of the cache -/
  hi : ∀ t : Fin 32768, (s (ix1 t)).toInt < 65536
  /-- two tokens with one slot are one token -/
  inj : ∀ t t' : Fin 32768, (s (ix1 t)).toInt = (s (ix1 t')).toInt → t = t'

/-- A vector stood up as a column and spread over a square reads, at row `i`, the vector at `i`. -/
theorem column {α : Type} (x : (⟨1, ![32768]⟩ : Shape).Idx → α)
    (h : (⟨1, ![32768]⟩ : Shape).BroadcastsInDim ⟨2, ![32768, 1]⟩ ![0])
    (h' : (⟨2, ![32768, 1]⟩ : Shape).BroadcastsInDim ⟨2, ![32768, 32768]⟩ ![0, 1]) (i j : Fin 32768) :
    broadcastInDim ⟨2, ![32768, 32768]⟩ ![0, 1] h' (broadcastInDim ⟨2, ![32768, 1]⟩ ![0] h x) (ix2 i j) = x (ix1 i) := by
  rw [broadcastInDim_apply _ h' _ (ix2 i j) (ix2 i (0 : Fin 1)) (fun a => by
        match a with
        | ⟨0, _⟩ => exact (if_neg (show ¬(32768 = 1) by omega)).symm
        | ⟨1, _⟩ => exact (if_pos (show 1 = 1 from rfl)).symm),
    broadcastInDim_apply _ h x (ix2 i (0 : Fin 1)) (ix1 i) (fun a => by
        match a with
        | ⟨0, _⟩ => exact (if_neg (show ¬(32768 = 1) by omega)).symm)]

/-- A vector laid down as a row and spread over a square reads, at column `j`, the vector at `j`. -/
theorem row {α : Type} (x : (⟨1, ![32768]⟩ : Shape).Idx → α)
    (h : (⟨1, ![32768]⟩ : Shape).BroadcastsInDim ⟨2, ![1, 32768]⟩ ![1])
    (h' : (⟨2, ![1, 32768]⟩ : Shape).BroadcastsInDim ⟨2, ![32768, 32768]⟩ ![0, 1]) (i j : Fin 32768) :
    broadcastInDim ⟨2, ![32768, 32768]⟩ ![0, 1] h' (broadcastInDim ⟨2, ![1, 32768]⟩ ![1] h x) (ix2 i j) = x (ix1 j) := by
  rw [broadcastInDim_apply _ h' _ (ix2 i j) (ix2 (0 : Fin 1) j) (fun a => by
        match a with
        | ⟨0, _⟩ => exact (if_pos (show 1 = 1 from rfl)).symm
        | ⟨1, _⟩ => exact (if_neg (show ¬(32768 = 1) by omega)).symm),
    broadcastInDim_apply _ h x (ix2 (0 : Fin 1) j) (ix1 j) (fun a => by
        match a with
        | ⟨0, _⟩ => exact (if_neg (show ¬(32768 = 1) by omega)).symm)]

open Cert.Pre_slots_distinct in
/-- The precondition read at tokens `i` and `j`: their slots differ or they are one token, and `i`'s slot is a row of the cache. -/
theorem pre_at [Facts] {F : FTy → Type} [FloatOps F] (k v : FVec F S65536x8x64 .f32) (nk nv : FVec F S32768x8x64 .f32) (s : IVec S32768 32)
    (i j : Fin 32768) :
    fn k v nk nv s (ix2 i j)
      = IntOp.andi (IntOp.ori (IntOp.cmpi .ne (s (ix1 i)) (s (ix1 j))) (IntOp.cmpi .eq (BitVec.ofNat 32 i.val) (BitVec.ofNat 32 j.val)))
          (IntOp.andi (IntOp.cmpi .sge (s (ix1 i)) 0#32) (IntOp.cmpi .slt (s (ix1 i)) 65536#32)) := by
  unfold fn
  refine congrArg₂ IntOp.andi (congrArg₂ IntOp.ori (congrArg₂ (IntOp.cmpi .ne) ?_ ?_) (congrArg₂ (IntOp.cmpi .eq) ?_ ?_)) ?_
  · exact column s _ _ i j
  · exact row s _ _ i j
  · exact column (iotaInDim S32768 32 0) _ _ i j
  · exact row (iotaInDim S32768 32 0) _ _ i j
  · exact column _ _ _ i j

open Cert.Pre_slots_distinct in
/-- Where the precondition holds at every pair of tokens, the slots are in range and pairwise different. -/
theorem good_of_pre [Facts] {F : FTy → Type} [FloatOps F] (k v : FVec F S65536x8x64 .f32) (nk nv : FVec F S32768x8x64 .f32) (s : IVec S32768 32)
    (h : fn k v nk nv s = fun _ => 1#1) : Good s := by
  have key : ∀ i j : Fin 32768,
      (s (ix1 i) ≠ s (ix1 j) ∨ i = j) ∧ 0 ≤ (s (ix1 i)).toInt ∧ (s (ix1 i)).toInt < 65536 := fun i j => by
    have e := (pre_at k v nk nv s i j).symm.trans (congrFun h (ix2 i j))
    rw [WordCmp.cmpi_ne_eq, WordCmp.cmpi_eq_ofNat (by have := i.isLt; omega) (by have := j.isLt; omega), WordCmp.cmpi_sge_eq,
      WordCmp.cmpi_slt_eq, WordCmp.ori_ofBool, WordCmp.andi_ofBool, WordCmp.andi_ofBool, WordCmp.ofBool_eq_one_iff, Bool.and_eq_true,
      Bool.and_eq_true, Bool.or_eq_true, decide_eq_true_iff, decide_eq_true_iff, decide_eq_true_iff, decide_eq_true_iff] at e
    exact ⟨e.1.imp_right Fin.ext, e.2⟩
  exact ⟨fun t => (key t t).2.1, fun t => (key t t).2.2, fun t t' q =>
    (key t t').1.elim (fun n => (n (BitVec.eq_of_toInt_eq q)).elim) id⟩

end Cert.Slots

end
-- ==== Proof.Reference.lean ====
/-
  What the reference returns when the slots are in range and pairwise different: the new keys and the new values side by side.
  It writes the new rows into the cache, reads the same rows back, and replaces by a NaN every row whose number is out of range.
-/
module

public import proofs.«01_k».proof.Proof.Rows
public import proofs.«01_k».proof.Proof.Slots
public import proofs.«01_k».proof.Proof.Gen.ReferenceIdeal.Run
public import Idealize.ShloMosaic.Lib.ReduceAll

@[expose] public section

noncomputable section

namespace Cert.RefRead

open Cert.ReferenceIdeal Cert.ReferenceIdeal.Gen Idealize.ShloMosaic Idealize.ShloMosaic.ValueIdx Idealize.SL.Sem

variable {F : FTy → Type} [FloatOps F]

/-- The row numbers as the reference uses them: a negative slot counts from the end of the cache. -/
def rows (s : IVec S32768 32) : IVec S32768x1 32 :=
  broadcastInDim S32768x1 ![0] bcast_S32768_S32768x1_0
    (select (cmpi .slt s (broadcastInDim S32768 ![] bcast_S_S32768 (constantI S_ 32 0#32)))
      (addi s (broadcastInDim S32768 ![] bcast_S_S32768 (constantI S_ 32 65536#32))) s)

/-- Where the row numbers are in range, token by token. -/
def inRange (s : IVec S32768 32) : IVec S32768 1 :=
  Host.reduce IntOp.andi
    (andi (cmpi .sge (rows s) (broadcastInDim S32768x1 ![] bcast_S_S32768x1 (constantI S_ 32 0#32)))
      (cmpi .sle (rows s) (broadcastInDim S32768x1 ![0, 1] bcast_S1x1_S32768x1_0_1
        (broadcastInDim S1x1 ![1] bcast_S1_S1x1_1 (constantI S1 32 65535#32)))))
    (constantI S_ 1 1#1) reducesTo_S32768x1_S32768_d1 h_S_

/-- One cache updated with the new rows and the same rows taken out again, NaN where a row number is out of range. -/
def readBack (cache : FVec F S65536x8x64 .f32) (new : FVec F S32768x8x64 .f32) (s : IVec S32768 32) : FVec F S32768x8x64 .f32 :=
  select (broadcastInDim S32768x8x64 ![0] bcast_S32768_S32768x8x64_0 (inRange s))
    (Host.gather gather_S65536x8x64_S32768x1_S32768x8x64_12_0_n_n_0_1_1864
      (Host.scatter scatter_S65536x8x64_S32768x1_S32768x8x64_12_0_0_1 (fun _ b => b) cache (rows s) new) (rows s))
    (broadcastInDim S32768x8x64 ![] bcast_S_S32768x8x64 (constant S_ .f32 0x7FC00000#32))

/-- A slot that is not negative is its own row number. -/
theorem rows_at (s : IVec S32768 32) (t : Fin 32768) (h : 0 ≤ (s (ix1 t)).toInt) : rows s (ix2 t 0) = s (ix1 t) := by
  unfold rows
  rw [broadcastInDim_apply _ _ _ (ix2 t (0 : Fin 1)) (ix1 t) (fun a => by
    match a with
    | ⟨0, _⟩ => exact (if_neg (show ¬(32768 = 1) by omega)).symm)]
  exact Idealize.ShloMosaic.Routing.wrap_of_lt _ _ ((WordCmp.toInt_nonneg_iff_lt_half _).1 h)

/-- With the slots in range, every row number is. -/
theorem inRange_eq (s : IVec S32768 32) (g : Slots.Good s) : inRange s = fun _ => 1#1 := by
  funext j
  unfold inRange
  refine Host.reduce_andi_one _ _ _ _ _ rfl fun i => ?_
  obtain ⟨t, z, rfl⟩ : ∃ (t : Fin 32768) (z : Fin 1), i = ix2 t z := ⟨i 0, i 1, eq_ix2 i⟩
  obtain rfl : z = 0 := Subsingleton.elim _ _
  show IntOp.andi (IntOp.cmpi .sge (rows s (ix2 t 0)) 0#32) (IntOp.cmpi .sle (rows s (ix2 t 0)) 65535#32) = 1#1
  rw [rows_at s t (g.lo t), WordCmp.cmpi_sge_eq, WordCmp.cmpi_sle_eq, WordCmp.andi_ofBool, WordCmp.ofBool_eq_one_iff, Bool.and_eq_true,
    decide_eq_true_iff, decide_eq_true_iff]
  have lo := g.lo t
  have hi := g.hi t
  have e : (65535#32).toInt = 65535 := by decide
  have z : (0#32).toInt = 0 := by decide
  omega

/-- So reading back gives the new rows, whatever the cache held. -/
theorem readBack_eq (cache : FVec F S65536x8x64 .f32) (new : FVec F S32768x8x64 .f32) (s : IVec S32768 32) (g : Slots.Good s) :
    readBack cache new s = new := by
  have at_ : ∀ t : Fin 32768, rows s (ix2 t 0) = s (ix1 t) := fun t => rows_at s t (g.lo t)
  have e := Rows.take_set (N := 65536) (T := 32768) (H := 8) (D := 64)
    scatter_S65536x8x64_S32768x1_S32768x8x64_12_0_0_1_wf
    gather_S65536x8x64_S32768x1_S32768x8x64_12_0_n_n_0_1_1864_wf cache (rows s) new
    (fun t => by rw [at_]; exact g.lo t) (fun t => by rw [at_]; exact g.hi t)
    (fun t t' q => g.inj t t' (by rw [at_, at_] at q; exact q))
  unfold readBack
  rw [inRange_eq s g]
  exact (funext fun i => rfl : select _ _ _ = _).trans e

/-- The reference's result from its arguments: both caches read back, then joined along the last axis. -/
theorem result_eq (m : (ℓ : Loc nD τ sig) → Buf (Elt F) ℓ) (c : Dev nD)
    (g : Slots.Good (m ((c.tc : Thread nD τ).loc main_arg4))) :
    Value.res_out0 m c = Value.fn_main_v16 (m ((c.tc : Thread nD τ).loc main_arg2)) (m ((c.tc : Thread nD τ).loc main_arg3)) := by
  have e : Value.res_out0 m c
      = Value.fn_main_v16
          (readBack (m ((c.tc : Thread nD τ).loc main_arg0)) (m ((c.tc : Thread nD τ).loc main_arg2)) (m ((c.tc : Thread nD τ).loc main_arg4)))
          (readBack (m ((c.tc : Thread nD τ).loc main_arg1)) (m ((c.tc : Thread nD τ).loc main_arg3)) (m ((c.tc : Thread nD τ).loc main_arg4))) := rfl
  rw [e, readBack_eq _ _ _ g, readBack_eq _ _ _ g]

/-- Two arrays joined along the last axis, read in the first half: the first array. -/
theorem joined_left (a b : FVec F S32768x8x64 .f32) (t : Fin 32768) (h : Fin 8) (e : Fin 128) (he : e.val < 64) :
    Value.fn_main_v16 a b (ix3 t h e) = a (ix3 t h ⟨e.val, he⟩) := by
  unfold Value.fn_main_v16
  refine concatenate_apply_piece 2 [⟨S32768x8x64, a⟩, ⟨S32768x8x64, b⟩] _ (ix3 t h e) 0 Nat.zero_lt_two S32768x8x64 a rfl rfl 0 rfl
    (ix3 t h ⟨e.val, he⟩) (fun d hd => ?_) (Nat.zero_add _)
  match d with
  | ⟨0, _⟩ => rfl
  | ⟨1, _⟩ => rfl
  | ⟨2, _⟩ => exact absurd rfl hd

/-- Two arrays joined along the last axis, read in the second half: the second array. -/
theorem joined_right (a b : FVec F S32768x8x64 .f32) (t : Fin 32768) (h : Fin 8) (e : Fin 128) (he : 64 ≤ e.val) :
    Value.fn_main_v16 a b (ix3 t h e) = b (ix3 t h ⟨e.val - 64, by have := e.isLt; omega⟩) := by
  unfold Value.fn_main_v16
  refine concatenate_apply_piece 2 [⟨S32768x8x64, a⟩, ⟨S32768x8x64, b⟩] _ (ix3 t h e) 1 Nat.one_lt_two S32768x8x64 b rfl rfl 64 rfl
    (ix3 t h ⟨e.val - 64, by have := e.isLt; omega⟩) (fun d hd => ?_) (Nat.add_sub_cancel' he)
  match d with
  | ⟨0, _⟩ => rfl
  | ⟨1, _⟩ => rfl
  | ⟨2, _⟩ => exact absurd rfl hd

end Cert.RefRead

end
-- ==== Proof.lean ====
/-
  The proof of `Cert.Claim`: the kernel runs and leaves its arguments alone, and under distinct slots its result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_slots_distinct
public import proofs.«01_k».proof.Proof.Gen.ReferenceIdeal.Run
public import proofs.«01_k».proof.Proof.KernelValue
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.ShloMosaic.ValueIdx Idealize.SL.Sem

/-- What the kernel makes of the new keys and the new values is what the reference makes of them: component by component, a key below 64
    and a value from 64 on. -/
theorem results_agree {F : FTy → Type} [FloatOps F] (a b : FVec F Cert.KernelIdeal.S32768x8x64 .f32) :
    Cert.KernRead.tokensFirst (Cert.KernRead.heads (Cert.KernRead.tokensLast a) (Cert.KernRead.tokensLast b))
      = Cert.ReferenceIdeal.Value.fn_main_v16 a b := by
  funext i
  obtain ⟨t, h, e, rfl⟩ : ∃ (t : Fin 32768) (h : Fin 8) (e : Fin 128), i = ValueIdx.ix3 t h e := ⟨i 0, i 1, i 2, ValueIdx.eq_ix3 i⟩
  by_cases he : e.val < 64
  · exact (Cert.KernRead.joined_left a b t h e he).trans (Cert.RefRead.joined_left a b t h e he).symm
  · exact (Cert.KernRead.joined_right a b t h e (Nat.le_of_not_lt he)).trans (Cert.RefRead.joined_right a b t h e (Nat.le_of_not_lt he)).symm

/-- The reference runs, leaves its arguments alone and has every semaphore counter at zero at the end. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, Idealize.ShloMosaic.sem_eq_zero_of_no_sems (by decide) r.2⟩)
    (Cert.ReferenceIdeal.Value.run (F := Ideal) m ρ)

/-- Under the precondition, from memories that agree on the arguments, the kernel and the reference end with one and the same result. -/
theorem same_result : Cert.algebraic_KernelIdeal_ReferenceIdeal_pre_slots_distinct (hKernelIdeal := Cert.KernelIdeal.Gen.facts)
    (hReferenceIdeal := Cert.ReferenceIdeal.Gen.facts) (hPre_slots_distinct := Cert.Pre_slots_distinct.Gen.facts) := by
  intro m ρ m' ρ' hpre hagree
  refine ⟨_, Cert.KernRead.run m ρ, ?_⟩
  refine (θ_run _ _ _).mono (fun r h c => ⟨(h c).1.trans ?_, (h c).2⟩) (Cert.ReferenceIdeal.Value.run (F := Ideal) m' ρ')
  obtain ⟨e0, e1, e2, e3, e4⟩ := hagree c
  have good : Cert.Slots.Good (m' ((c.tc : Thread Cert.ReferenceIdeal.nD Cert.ReferenceIdeal.τ).loc Cert.ReferenceIdeal.main_arg4)) := by
    rw [e4]
    exact Cert.Slots.good_of_pre _ _ _ _ _ (hpre c)
  refine (Cert.RefRead.result_eq m' c good).trans ?_
  rw [e2, e3]
  exact (results_agree _ _).symm

theorem claim : Cert.Claim := ⟨Cert.Kernel.Gen.facts, Cert.KernelIdeal.Gen.facts, Cert.ReferenceIdeal.Gen.facts, Cert.Pre_slots_distinct.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ, trivial, same_result⟩

end Cert.Proof

end
